-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "eight_log_two_pi" .f32 0x416B3F8E#32 ((8 * (Real.log (2 * Real.pi)) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x16 : Shape := ⟨2, ![1024, 16]⟩
abbrev S100000x16 : Shape := ⟨2, ![100000, 16]⟩
abbrev S_ : Shape := ⟨0, ![]⟩
abbrev S100000 : Shape := ⟨1, ![100000]⟩
abbrev S1x100000 : Shape := ⟨2, ![1, 100000]⟩
abbrev S16x100000 : Shape := ⟨2, ![16, 100000]⟩
abbrev S17x100000 : Shape := ⟨2, ![17, 100000]⟩
abbrev S17x102400 : Shape := ⟨2, ![17, 102400]⟩
abbrev S1024x1 : Shape := ⟨2, ![1024, 1]⟩
abbrev S1024x17 : Shape := ⟨2, ![1024, 17]⟩
abbrev S1024 : Shape := ⟨1, ![1024]⟩
abbrev S17x10240 : Shape := ⟨2, ![17, 10240]⟩
abbrev S1024x10240 : Shape := ⟨2, ![1024, 10240]⟩

abbrev nBuf : Space → Nat
  | .hbm => 28
  | .vmem => 6
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000x16, .f32⟩
  | .hbm, ⟨3, _⟩ => ⟨S_, .f32⟩
  | .hbm, ⟨4, _⟩ => ⟨S100000, .f32⟩
  | .hbm, ⟨5, _⟩ => ⟨S1x100000, .f32⟩
  | .hbm, ⟨6, _⟩ => ⟨S1x100000, .bf16⟩
  | .hbm, ⟨7, _⟩ => ⟨S_, .bf16⟩
  | .hbm, ⟨8, _⟩ => ⟨S1x100000, .bf16⟩
  | .hbm, ⟨9, _⟩ => ⟨S1x100000, .bf16⟩
  | .hbm, ⟨10, _⟩ => ⟨S100000x16, .bf16⟩
  | .hbm, ⟨11, _⟩ => ⟨S16x100000, .bf16⟩
  | .hbm, ⟨12, _⟩ => ⟨S17x100000, .bf16⟩
  | .hbm, ⟨13, _⟩ => ⟨S_, .i32⟩
  | .hbm, ⟨14, _⟩ => ⟨S_, .bf16⟩
  | .hbm, ⟨15, _⟩ => ⟨S17x102400, .bf16⟩
  | .hbm, ⟨16, _⟩ => ⟨S_, .f32⟩
  | .hbm, ⟨17, _⟩ => ⟨S1024x1, .f32⟩
  | .hbm, ⟨18, _⟩ => ⟨S1024x17, .f32⟩
  | .hbm, ⟨19, _⟩ => ⟨S1024x16, .f32⟩
  | .hbm, ⟨20, _⟩ => ⟨S_, .f32⟩
  | .hbm, ⟨21, _⟩ => ⟨S1024, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S1024, .f32⟩
  | .local _ .vmem, ⟨0, _⟩ => ⟨S1024x17, .f32⟩
  | .local _ .vmem, ⟨1, _⟩ => ⟨S17x10240, .bf16⟩
  | .local _ .vmem, ⟨2, _⟩ => ⟨S17x10240, .bf16⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_call0_v0 : Ref sig .tc := ⟨.hbm, 14, rfl⟩
abbrev main_call0_v9 : Ref sig .tc := ⟨.hbm, 15, rfl⟩
abbrev main_call0_cst_1 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_cst_2 : Ref sig .tc := ⟨.hbm, 20, rfl⟩
abbrev main_call0_v13 : Ref sig .tc := ⟨.hbm, 21, rfl⟩
abbrev main_call0_v14 : Ref sig .tc := ⟨.hbm, 22, rfl⟩
abbrev main_call0_cst_3 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_v0 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![1, 10], ![false, false]⟩

def k0_cond2 (i : grid0.Coords) : BitVec 1 :=
  let arg1 : BitVec 32 := BitVec.ofNat 32 (i 1).val
  let c9_i32 : BitVec 32 := 9#32
  let v19 : BitVec 1 := Scalar.cmpi .eq arg1 c9_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x17 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S17x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "eight_log_two_pi" => some ((8 * (Real.log (2 * Real.pi)) : ℝ) : EReal)
  | "log2_e" => some (((Real.log 2)⁻¹ : ℝ) : EReal)
  | _ => none
-- ==== ReferenceIdeal.lean ====
abbrev S1024x16 : Shape := ⟨2, ![1024, 16]⟩
abbrev S100000x16 : Shape := ⟨2, ![100000, 16]⟩
abbrev S_ : Shape := ⟨0, ![]⟩
abbrev S100000 : Shape := ⟨1, ![100000]⟩
abbrev S1024 : Shape := ⟨1, ![1024]⟩
abbrev S1024x1 : Shape := ⟨2, ![1024, 1]⟩
abbrev S1x100000 : Shape := ⟨2, ![1, 100000]⟩
abbrev S1024x100000 : Shape := ⟨2, ![1024, 100000]⟩
abbrev S16x100000 : Shape := ⟨2, ![16, 100000]⟩

abbrev nBuf : Space → Nat
  | .hbm => 52
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S_, .f32⟩
  | .hbm, ⟨3, _⟩ => ⟨S100000, .f32⟩
  | .hbm, ⟨4, _⟩ => ⟨S1024x16, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S100000x16, .f32⟩
  | .hbm, ⟨9, _⟩ => ⟨S_, .f32⟩
  | .hbm, ⟨10, _⟩ => ⟨S100000, .f32⟩
  | .hbm, ⟨11, _⟩ => ⟨S1x100000, .f32⟩
  | .hbm, ⟨12, _⟩ => ⟨S1024x100000, .f32⟩
  | .hbm, ⟨13, _⟩ => ⟨S1024x100000, .f32⟩
  | .hbm, ⟨14, _⟩ => ⟨S1024x100000, .f32⟩
  | .hbm, ⟨15, _⟩ => ⟨S16x100000, .f32⟩
  | .hbm, ⟨16, _⟩ => ⟨S1024x100000, .f32⟩
  | .hbm, ⟨17, _⟩ => ⟨S_, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024x100000, .f32⟩
  | .hbm, ⟨23, _⟩ => ⟨S1024x100000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S1024x100000, .f32⟩
  | .hbm, ⟨37, _⟩ => ⟨S_, .f32⟩
  | .hbm, ⟨38, _⟩ => ⟨S1024x100000, .f32⟩
  | .hbm, ⟨39, _⟩ => ⟨S1024x100000, .f32⟩
  | .hbm, ⟨40, _⟩ => ⟨S1x100000, .f32⟩
  | .hbm, ⟨41, _⟩ => ⟨S1024x100000, .f32⟩
  | .hbm, ⟨42, _⟩ => ⟨S1024x100000, .f32⟩
  | .hbm, ⟨43, _⟩ => ⟨S_, .f32⟩
  | .hbm, ⟨44, _⟩ => ⟨S1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Consts.lean ====
/-
  The literals of the kernel and of the reference, and the two named constants, as real numbers.
-/
module

public import proofs.«01_k».proof.KernelIdeal
public import Idealize.ShloMosaic.PureOps.Ideal
public import Idealize.ShloMosaic.PureOps.IdealRules
public import Idealize.ShloMosaic.Lib.IdealHost

@[expose] public section

noncomputable section

namespace Cert.Consts

open Idealize.ShloMosaic

/-- The named constant `log2_e` is `1 / log 2`. -/
theorem log2_e : Named.named (F := Ideal) Cert.KernelIdeal.κ "log2_e" (φ := .f32) 0x3FB8AA3B#32
    = (((Real.log 2)⁻¹ : ℝ) : EReal) :=
  IdealRules.named_const.ideal_named_scalar _ _ _ _ rfl

/-- The named constant `eight_log_two_pi` is `8 log (2 π)`. -/
theorem eight_log_two_pi : Named.named (F := Ideal) Cert.KernelIdeal.κ "eight_log_two_pi" (φ := .f32) 0x416B3F8E#32
    = ((8 * Real.log (2 * Real.pi) : ℝ) : EReal) :=
  IdealRules.named_const.ideal_named_scalar _ _ _ _ rfl

/-- The f32 literal `2400.0`, the number of padded columns. -/
theorem f32_2400 : Ideal.ofBits .f32 0x45160000#32 = ((2400 : ℝ) : EReal) := by
  simp [Ideal.ofBits, Ideal.ieee, -EReal.coe_mul]; norm_num

/-- The f32 literal `100000.0`, the number of data points. -/
theorem f32_100000 : Ideal.ofBits .f32 0x47C35000#32 = ((100000 : ℝ) : EReal) := by
  simp [Ideal.ofBits, Ideal.ieee, -EReal.coe_mul]; norm_num

/-- The f32 literal `2.0`. -/
theorem f32_2 : Ideal.ofBits .f32 0x40000000#32 = ((2 : ℝ) : EReal) := by
  simp [Ideal.ofBits, Ideal.ieee, -EReal.coe_mul]; norm_num

/-- The f32 literal `-0.5`. -/
theorem f32_neg_half : Ideal.ofBits .f32 0xBF000000#32 = ((-(1 / 2) : ℝ) : EReal) := by
  simp [Ideal.ofBits, Ideal.ieee, -EReal.coe_mul]; norm_num

/-- The bf16 literal `-0.5`. -/
theorem bf16_neg_half : Ideal.ofBits .bf16 0xBF00#16 = ((-(1 / 2) : ℝ) : EReal) := by
  simp [Ideal.ofBits, Ideal.ieee, -EReal.coe_mul]; norm_num

/-- The f32 literal `-1.0`. -/
theorem f32_neg_one : Ideal.ofBits .f32 0xBF800000#32 = ((-1 : ℝ) : EReal) := by
  simp [Ideal.ofBits, Ideal.ieee, -EReal.coe_mul]; norm_num

/-- The f32 literal `-8.0`. -/
theorem f32_neg_eight : Ideal.ofBits .f32 0xC1000000#32 = ((-8 : ℝ) : EReal) := by
  simp [Ideal.ofBits, Ideal.ieee, -EReal.coe_mul]; norm_num

/-- The f32 infinity. -/
theorem f32_inf : Ideal.ofBits .f32 0x7F800000#32 = ⊤ := by
  simp [Ideal.ofBits, Ideal.ieee]

end Cert.Consts

end
-- ==== Proof.HostPrefix.lean ====
/-
  What the host's operations before the launch leave in the launch's three operands, over the queries and the data
  points, and which block of each operand a grid point reads.
-/
module

public import proofs.«01_k».proof.Proof.Gen.KernelIdeal.Frame
public import proofs.«01_k».proof.Proof.Consts
public import Idealize.ShloMosaic.PureOps.Ideal
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The queries, as core `c` is given them. -/
abbrev queries (c : Dev nD) : Vec Ideal S1024x16 .f32 := m (c, Proc.tc.devRef main_arg0)

/-- The data points, as core `c` is given them. -/
abbrev points (c : Dev nD) : Vec Ideal S100000x16 .f32 := m (c, Proc.tc.devRef main_arg1)

/-- The first sixteen columns of the launch's first operand are the queries. -/
theorem q_aug_apply (c : Dev nD) (i : Fin 1024) (l : Fin 16) :
    V m c main_call0_v11 (ix2 i l.castSucc) = queries m c (ix2 i l) := by
  unfold V V0
  after_reads_at
  rw [dif_pos (show (l.castSucc : ℕ) < 16 from l.isLt)]
  after_reads_at
  rfl

/-- Its last column is one. -/
theorem q_aug_last (c : Dev nD) (i : Fin 1024) :
    V m c main_call0_v11 (ix2 i (Fin.last 16)) = (1 : EReal) := by
  obtain ⟨l, hl⟩ : ∃ l, l = Fin.last 16 := ⟨_, rfl⟩
  rw [← hl]
  unfold V V0
  after_reads_at
  rw [dif_neg (show ¬ (l : ℕ) < 16 by rw [hl]; decide)]
  after_reads_at

/-- The first sixteen rows of the second operand, in a column of a data point, are that data point. -/
theorem d_aug_apply (c : Dev nD) (l : Fin 16) (j : Fin 102400) (h : j.val < 100000) :
    V m c main_call0_v9 (ix2 l.castSucc j) = points m c (ix2 ⟨j.val, h⟩ l) := by
  unfold V V0
  after_reads_at
  rw [dif_pos h, dif_pos (show (l.castSucc : ℕ) < 16 from l.isLt)]
  after_reads_at
  rfl

/-- Its last row, in a column of a data point, is minus half the data point's squared norm. -/
theorem d_aug_last (c : Dev nD) (j : Fin 102400) (h : j.val < 100000) :
    V m c main_call0_v9 (ix2 (Fin.last 16) j) = ((-(1 / 2) : ℝ) : EReal) *
      ∑ l : Fin 16, points m c (ix2 ⟨j.val, h⟩ l) * points m c (ix2 ⟨j.val, h⟩ l) := by
  obtain ⟨l, hl⟩ : ∃ l, l = Fin.last 16 := ⟨_, rfl⟩
  rw [← hl]
  unfold V V0
  after_reads_at
  rw [dif_pos h, dif_neg (show ¬ (l : ℕ) < 16 by rw [hl]; decide)]
  after_reads_at
  rw [Consts.bf16_neg_half]

/-- A padded column of the second operand is zero. -/
theorem d_aug_pad (c : Dev nD) (l : Fin 17) (j : Fin 102400) (h : ¬ j.val < 100000) :
    V m c main_call0_v9 (ix2 l j) = (0 : EReal) := by
  unfold V V0
  after_reads_at
  rw [dif_neg h]
  simp [FloatOps.sitofp]

/-- The third operand is minus half the query's squared norm. -/
theorem half_norm_apply (c : Dev nD) (i : Fin 1024) :
    V m c main_call0_v16 (ix2 i 0) = ((-(1 / 2) : ℝ) : EReal) *
      ∑ l : Fin 16, queries m c (ix2 i l) * queries m c (ix2 i l) := by
  unfold V V0
  after_reads_at
  rw [Consts.f32_neg_half]

/-- The blocks that a grid point reads: the first and third operand whole, of the second its own columns. -/
theorem idx : ∀ t : Fin cfg0.N, (cfg0.win 0).index t = ![0, 0] ∧ (cfg0.win 1).index t = ![0, t.val] ∧ (cfg0.win 2).index t = ![0, 0] := by
  decide +kernel

/-- Every grid point's first block is the first operand. -/
theorem iblk0_apply (c : Dev nD) (t : Fin cfg0.N) (i : Fin 1024) (l : Fin 17) :
    iblk m c 0 t (ix2 i l) = V m c main_call0_v11 (ix2 i l) := by
  blk_ext [iblk, idx t]

/-- Grid point `t`'s second block is the second operand's 10240 columns from `10240 t` on. -/
theorem iblk1_apply (c : Dev nD) (t : Fin cfg0.N) (l : Fin 17) (j : Fin 10240) (h : t.val * 10240 + j.val < 102400) :
    iblk m c 1 t (ix2 l j) = V m c main_call0_v9 (ix2 l ⟨t.val * 10240 + j.val, h⟩) := by
  blk_ext [iblk, idx t]

/-- Every grid point's third block is the third operand. -/
theorem iblk2_apply (c : Dev nD) (t : Fin cfg0.N) (i : Fin 1024) :
    iblk m c 2 t (ix2 i 0) = V m c main_call0_v16 (ix2 i 0) := by
  blk_ext [iblk, idx t]

end Cert.KernelIdeal.Value

end
-- ==== Proof.CoeSum.lean ====
/-
  Sums of extended reals that are all real.
-/
module

public import Idealize.ShloMosaic.PureOps.Ideal

@[expose] public section

namespace Cert.Density

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert k s hk ih => rw [Finset.sum_insert hk, Finset.sum_insert hk, ih, EReal.coe_add]

/-- A finite sum of products of real numbers, taken in the extended reals, is the real sum of products. -/
theorem coe_sum_mul {ι : Type} (s : Finset ι) (f g : ι → ℝ) :
    ∑ k ∈ s, ((f k : ℝ) : EReal) * ((g k : ℝ) : EReal) = ((∑ k ∈ s, f k * g k : ℝ) : EReal) := by
  rw [← coe_sum]
  exact Finset.sum_congr rfl fun k _ => (EReal.coe_mul _ _).symm

/-- The sum of `n` ones is `n`. -/
theorem sum_ones (n : ℕ) : ∑ _k : Fin n, (1 : ℝ) = n := by
  rw [Finset.sum_const, Finset.card_univ, Fintype.card_fin, nsmul_eq_mul, mul_one]

end Cert.Density
-- ==== Proof.Density.lean ====
/-
  The real mathematics of the certificate: the logarithm of a Gaussian kernel density, computed in two ways.
  No program is mentioned here; everything is about finite sums of real numbers.
-/
module

public import Idealize.ShloMosaic.PureOps.Ideal
public import Idealize.ShloMosaic.Lib.Pipeline.ValueKit

@[expose] public section

noncomputable section

namespace Cert.Density

open Finset

/-- A power of two whose exponent carries the factor `1 / log 2` is an exponential: `2 ^ (t / log 2) = e ^ t`. -/
theorem two_rpow_scaled (t : ℝ) : (2 : ℝ) ^ ((Real.log 2)⁻¹ * t) = Real.exp t := by
  have h2 : Real.log 2 ≠ 0 := (Real.log_pos one_lt_two).ne'
  rw [Real.rpow_def_of_pos two_pos, mul_inv_cancel_left₀ h2]

/-- The squared distance, expanded into squared norms and an inner product, is nonnegative. -/
theorem sqdist_nonneg {ι : Type} [Fintype ι] (q x : ι → ℝ) :
    0 ≤ ∑ l, q l * q l + ∑ l, x l * x l - 2 * ∑ l, q l * x l := by
  have h : ∑ l, q l * q l + ∑ l, x l * x l - 2 * ∑ l, q l * x l = ∑ l, (q l - x l) ^ 2 := by
    rw [mul_sum, ← sum_add_distrib, ← sum_sub_distrib]
    exact sum_congr rfl fun l _ => by ring
  rw [h]
  exact sum_nonneg fun l _ => sq_nonneg _

/-- THE IDENTITY. `a` is the squared norm of the query, `b j` that of data point `j`, `p j` their inner product, and `n`
    the number of data points. The sum of `e ^ (p j - b j / 2)`, its logarithm shifted by what does not depend on `j`, is
    the logarithm of the mean of the Gaussian kernels `(2 π) ^ (-8) e ^ (-(a + b j - 2 p j) / 2)`. -/
theorem log_density {ι : Type} [Fintype ι] [Nonempty ι] (a : ℝ) (b p : ι → ℝ) (n : ℝ) (hn : 0 < n) :
    Real.log (∑ j, Real.exp (p j - b j / 2)) + ((-(1 / 2) * a - 8 * Real.log (2 * Real.pi)) - Real.log n)
      = Real.log ((∑ j, (2 * Real.pi) ^ (-8 : ℝ) * Real.exp (-(1 / 2) * (a + b j - 2 * p j))) / n) := by
  have hπ : 0 < 2 * Real.pi := Real.two_pi_pos
  have hS : 0 < ∑ j, Real.exp (p j - b j / 2) := sum_pos (fun _ _ => Real.exp_pos _) univ_nonempty
  have hterm : ∀ j, (2 * Real.pi) ^ (-8 : ℝ) * Real.exp (-(1 / 2) * (a + b j - 2 * p j))
      = (2 * Real.pi) ^ (-8 : ℝ) * Real.exp (-(1 / 2) * a) * Real.exp (p j - b j / 2) := fun j => by
    rw [mul_assoc, ← Real.exp_add]
    congr 2
    ring
  rw [sum_congr rfl fun j _ => hterm j, ← mul_sum,
    Real.log_div (mul_pos (mul_pos (Real.rpow_pos_of_pos hπ _) (Real.exp_pos _)) hS).ne' hn.ne',
    Real.log_mul (mul_pos (Real.rpow_pos_of_pos hπ _) (Real.exp_pos _)).ne' hS.ne',
    Real.log_mul (Real.rpow_pos_of_pos hπ _).ne' (Real.exp_pos _).ne', Real.log_rpow hπ, Real.log_exp]
  ring

/-- A sum over `0 … T B - 1` read block by block, where the entries from `n` on are ones: it is the sum of the first `n`
    entries and the number of the others. -/
theorem sum_blocks_padded (T B n : ℕ) (f : ℕ → ℝ) (hn : n ≤ T * B) (h1 : ∀ k, n ≤ k → k < T * B → f k = 1) :
    ∑ t ∈ range T, ∑ c : Fin B, f (t * B + c.val) = (∑ j : Fin n, f j.val) + ((T * B - n : ℕ) : ℝ) := by
  have hin : ∀ t, ∑ c : Fin B, f (t * B + c.val) = ∑ c ∈ range B, f (t * B + c) := fun t =>
    Fin.sum_univ_eq_sum_range (fun c => f (t * B + c)) B
  rw [sum_congr rfl fun t _ => hin t, sum_range_range_mul_add, Fin.sum_univ_eq_sum_range,
    ← sum_range_add_sum_Ico f hn]
  congr 1
  rw [sum_congr rfl fun k hk => h1 k (mem_Ico.mp hk).1 (mem_Ico.mp hk).2, sum_const, Nat.card_Ico, nsmul_one]

end Cert.Density

end
-- ==== Proof.KernelValue.lean ====
/-
  What the kernel's grid points compute, over real queries and data points: the running sum of weights that the
  scratch carries, and the column of log densities that the last point writes.
-/
module

public import proofs.«01_k».proof.Proof.Gen.KernelIdeal.Frame
public import proofs.«01_k».proof.Proof.HostPrefix
public import proofs.«01_k».proof.Proof.CoeSum
public import proofs.«01_k».proof.Proof.Density
public import Idealize.ShloMosaic.PureOps.Ideal
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem

/-- The exponent of query `i` at column `k`: inner product minus half the data point's squared norm, and zero in a
    padded column. -/
def expo (q : Fin 1024 → Fin 16 → ℝ) (x : Fin 100000 → Fin 16 → ℝ) (i : Fin 1024) (k : ℕ) : ℝ :=
  if h : k < 100000 then ∑ l, q i l * x ⟨k, h⟩ l - (∑ l, x ⟨k, h⟩ l * x ⟨k, h⟩ l) / 2 else 0

/-- One grid point's update of the scratch at an index: what was there, and the powers of two summed over the block's columns. -/
theorem step_apply (x0 : Vec Ideal S1024x17 .f32) (x1 : Vec Ideal S17x10240 .bf16) (xs : Vec Ideal S1024x1 .f32)
    (i : Fin 1024) (z : Fin 1) :
    k0_pay2 (F := Ideal) x0 x1 xs (ix2 i z) = xs (ix2 i z) +
      ∑ j : Fin 10240, Ideal.exp2 (∑ l : Fin 17, (((Real.log 2)⁻¹ : ℝ) : EReal) * x0 (ix2 i l) * x1 (ix2 l j)) := by
  pointwise [k0_pay2]
  rw [Consts.log2_e]
  rfl

/-- The last point's result at an index: the logarithm of the sum without the padded columns, and the additive terms. -/
theorem finish_apply (xs : Vec Ideal S1024x1 .f32) (x2 : Vec Ideal S1024x1 .f32) (i : Fin 1024) (z : Fin 1) :
    k0_pay3 (F := Ideal) xs x2 (ix2 i z) = Ideal.log (xs (ix2 i z) - ((2400 : ℝ) : EReal)) +
      (x2 (ix2 i z) - ((8 * Real.log (2 * Real.pi) : ℝ) : EReal) - Ideal.log ((100000 : ℝ) : EReal)) := by
  pointwise [k0_pay3]
  rw [Consts.eight_log_two_pi, Consts.f32_2400, Consts.f32_100000]
  rfl

/-- The first point starts from zero. -/
theorem start_apply (i : Fin 1024) (z : Fin 1) : k0_pay1 (F := Ideal) (ix2 i z) = (0 : EReal) := by
  pointwise [k0_pay1]

section Real

variable (m : (ℓ : Loc nD τ sig) → Buf (Elt Ideal) ℓ) (c : Dev nD)
variable (q : Fin 1024 → Fin 16 → ℝ) (x : Fin 100000 → Fin 16 → ℝ)
variable (hq : ∀ i l, queries m c (ix2 i l) = ((q i l : ℝ) : EReal)) (hx : ∀ j l, points m c (ix2 j l) = ((x j l : ℝ) : EReal))

include hq hx in
/-- The scaled exponent that grid point `t` forms for query `i` and column `j` of its block. -/
theorem scores_apply (t : Fin cfg0.N) (i : Fin 1024) (j : Fin 10240) :
    ∑ l : Fin 17, (((Real.log 2)⁻¹ : ℝ) : EReal) * iblk m c 0 t (ix2 i l) * iblk m c 1 t (ix2 l j)
      = (((Real.log 2)⁻¹ * expo q x i (t.val * 10240 + j.val) : ℝ) : EReal) := by
  have hk : t.val * 10240 + j.val < 102400 := by
    have h := lt_of_lt_of_eq t.isLt (show cfg0.N = 10 from N_0)
    omega
  simp only [iblk0_apply, iblk1_apply m c t _ j hk]
  rw [Fin.sum_univ_castSucc, q_aug_last]
  by_cases h : t.val * 10240 + j.val < 100000
  · have hl : ∀ l : Fin 16, (((Real.log 2)⁻¹ : ℝ) : EReal) * V m c main_call0_v11 (ix2 i l.castSucc) * V m c main_call0_v9 (ix2 l.castSucc ⟨_, hk⟩)
        = (((Real.log 2)⁻¹ * q i l * x ⟨_, h⟩ l : ℝ) : EReal) := fun l => by
      rw [q_aug_apply, d_aug_apply m c l ⟨_, hk⟩ h, hq, hx, EReal.coe_mul, EReal.coe_mul]
    rw [Finset.sum_congr rfl fun l _ => hl l, d_aug_last m c ⟨_, hk⟩ h, mul_one]
    simp only [hx]
    rw [Density.coe_sum_mul, Density.coe_sum, ← EReal.coe_mul, ← EReal.coe_mul, ← EReal.coe_add, expo, dif_pos h,
      Finset.sum_congr rfl fun l _ => mul_assoc _ _ _, ← Finset.mul_sum]
    congr 1
    ring
  · simp only [d_aug_pad m c _ ⟨_, hk⟩ h, mul_zero, Finset.sum_const_zero, add_zero]
    rw [expo, dif_neg h, mul_zero, EReal.coe_zero]

/-- The sum of weights that grid point `t` adds for query `i`. -/
def blockSum (t : ℕ) (i : Fin 1024) : ℝ := ∑ j : Fin 10240, Real.exp (expo q x i (t * 10240 + j.val))

include hq hx in
/-- A grid point adds its block's sum of weights to the scratch. -/
theorem step_real (t : Fin cfg0.N) (xs : Vec Ideal S1024x1 .f32) (i : Fin 1024) (z : Fin 1) :
    k0_pay2 (F := Ideal) (iblk m c 0 t) (iblk m c 1 t) xs (ix2 i z) = xs (ix2 i z) + ((blockSum q x t.val i : ℝ) : EReal) := by
  rw [step_apply, blockSum, ← Density.coe_sum]
  refine congrArg _ (Finset.sum_congr rfl fun j _ => ?_)
  rw [scores_apply m c q x hq hx, Ideal.exp2_coe]
  exact congrArg _ (Density.two_rpow_scaled _)

include hq hx in
/-- After grid point `t` the scratch holds the sums of weights of the blocks up to `t`. -/
theorem scratch_apply (t : Fin cfg0.N) (i : Fin 1024) (z : Fin 1) :
    (outsAt0 (F := Ideal) m c t.val t.isLt).2 (ix2 i z) = ((∑ s ∈ Finset.range (t.val + 1), blockSum q x s i : ℝ) : EReal) := by
  have h := Pipeline.eq_sum_of_reset_step_apply_single (N := cfg0.N) (M := EReal)
    (fun n h (i : Fin 1024) => (outsAt0 (F := Ideal) m c n h).2 (ix2 i z)) 10
    (fun _ => 0) (fun s i => ((blockSum q x s i : ℝ) : EReal))
    (fun t h0 i => by
      rw [outsAt0_A m c t h0 (by omega)]
      frame_out
      rw [step_real m c q x hq hx, start_apply])
    (fun t h0 i => by
      by_cases h1 : t.val % 10 = 9
      · rw [outsAt0_C m c t h0 h1]
        frame_out
        simp only [read_unread_whole]
        rw [step_real m c q x hq hx]
      · rw [outsAt0_B m c t h0 h1]
        frame_out
        simp only [read_unread_whole]
        rw [step_real m c q x hq hx])
    N_0.le t i
  rw [h, zero_add, Density.coe_sum]

/-- The last grid point. -/
def tLast : Fin cfg0.N := ⟨9, by rw [show cfg0.N = 10 from N_0]; decide⟩

/-- The log density that the kernel gives for query `i`. -/
def kernelDensity (i : Fin 1024) : EReal :=
  Ideal.log (((∑ s ∈ Finset.range 10, blockSum q x s i : ℝ) : EReal) - ((2400 : ℝ) : EReal)) +
    (((-(1 / 2) : ℝ) : EReal) * ((∑ l, q i l * q i l : ℝ) : EReal) - ((8 * Real.log (2 * Real.pi) : ℝ) : EReal)
      - Ideal.log ((100000 : ℝ) : EReal))

include hq hx in
/-- What the last grid point leaves in the result block. -/
theorem last_apply (i : Fin 1024) (z : Fin 1) :
    (outsAt0 (F := Ideal) m c tLast.val tLast.isLt).1 (ix2 i z) = kernelDensity q x i := by
  rw [outsAt0_C m c tLast (by decide) (by decide)]
  frame_out
  simp only [read_unread_whole]
  have h8 : (outsAt0 (F := Ideal) m c (tLast.val - 1) (Nat.lt_of_le_of_lt (Nat.sub_le _ _) tLast.isLt)).2 (ix2 i z)
      = ((∑ s ∈ Finset.range 9, blockSum q x s i : ℝ) : EReal) :=
    scratch_apply m c q x hq hx ⟨8, lt_of_lt_of_eq (by decide : 8 < 10) (show cfg0.N = 10 from N_0).symm⟩ i z
  obtain rfl : z = 0 := Subsingleton.elim _ _
  rw [finish_apply, step_real m c q x hq hx, h8, iblk2_apply, half_norm_apply, kernelDensity, Finset.sum_range_succ _ 9]
  simp only [hq]
  rw [Density.coe_sum_mul, EReal.coe_add]
  rfl

/-- The column of log densities that the launch leaves in its result array. -/
def kernelColumn : Vec Ideal S1024x1 .f32 := fun j => kernelDensity q x (j 0)

include hq hx in
/-- After the launch its result array holds the column of log densities. -/
theorem array_eq : (dats (F := Ideal) m 0 c).arrAt 3 cfg0.N = kernelColumn q x := by
  refine (dats m 0 c).arrAt_eq_of_after_last 3 tLast (by decide +kernel) _ fun j => ?_
  blk_simp
  idx_vars j
  rw [after0_3]
  exact last_apply m c q x hq hx j0 j1

end Real

end Cert.KernelIdeal.Value

end
-- ==== Proof.RefValue.lean ====
/-
  What the reference computes, over real queries and data points.
-/
module

public import proofs.«01_k».proof.Proof.Gen.ReferenceIdeal.Run
public import proofs.«01_k».proof.Proof.Consts
public import proofs.«01_k».proof.Proof.CoeSum
public import proofs.«01_k».proof.Proof.Density
public import Idealize.ShloMosaic.PureOps.Ideal
public import Idealize.ShloMosaic.Lib.Pointwise
public import Idealize.ShloMosaic.Lib.Claim
public import Idealize.ShloMosaic.Lib.StableHlo.ReadAt
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The data points' weights, all one. -/
def weights : FVec Ideal S100000 .f32 := broadcastInDim S100000 ![] bcast_S_S100000 (constant (F := Ideal) S_ .f32 0x3F800000#32)

/-- The Gaussian's normalizing factor, `(2 π) ^ (-8)`. -/
def factor : FVec Ideal S_ .f32 :=
  id (Host.powf (mulf (constant (F := Ideal) S_ .f32 0x40000000#32) (Host.acos (constant S_ .f32 0xBF800000#32))) (constant S_ .f32 0xC1000000#32))

/-- The squared distances of the queries `a` from the data points `b`, from squared norms and inner products, not below zero. -/
def sqdist (a : FVec Ideal S1024x16 .f32) (b : FVec Ideal S100000x16 .f32) : FVec Ideal S1024x100000 .f32 :=
  maximumf (subf
      (addf
        (broadcastInDim S1024x100000 ![0, 1] bcast_S1024x1_S1024x100000_0_1 (broadcastInDim S1024x1 ![0] bcast_S1024_S1024x1_0
          (Host.reduceAdd (mulf a a) (constant S_ .f32 0x00000000#32) reducesTo_S1024x16_S1024_d1 h_S_)))
        (broadcastInDim S1024x100000 ![0, 1] bcast_S1x100000_S1024x100000_0_1 (broadcastInDim S1x100000 ![1] bcast_S100000_S1x100000_1
          (Host.reduceAdd (mulf b b) (constant S_ .f32 0x00000000#32) reducesTo_S100000x16_S100000_d1 h_S_))))
      (mulf (broadcastInDim S1024x100000 ![] bcast_S_S1024x100000 (constant S_ .f32 0x40000000#32))
        (Host.dotGeneral dot_S1024x16_S16x100000_S1024x100000_1_0_0_1_n_n none a (transpose S16x100000 [1, 0] b transposes_S100000x16_S16x100000_1_0))))
    (broadcastInDim S1024x100000 ![] bcast_S_S1024x100000 (constant S_ .f32 0x00000000#32))

/-- The weighted Gaussian densities of the queries at the data points. -/
def gaussians (a : FVec Ideal S1024x16 .f32) (b : FVec Ideal S100000x16 .f32) : FVec Ideal S1024x100000 .f32 :=
  mulf
    (mulf (broadcastInDim S1024x100000 ![] bcast_S_S1024x100000 factor)
      (Host.exp (Host.divf (mulf (broadcastInDim S1024x100000 ![] bcast_S_S1024x100000 (constant S_ .f32 0xBF000000#32)) (sqdist a b))
        (broadcastInDim S1024x100000 ![] bcast_S_S1024x100000 (constant S_ .f32 0x3F800000#32)))))
    (broadcastInDim S1024x100000 ![0, 1] bcast_S1x100000_S1024x100000_0_1 (broadcastInDim S1x100000 ![1] bcast_S100000_S1x100000_1 weights))

/-- The sum of the weights. -/
def weightSum : FVec Ideal S_ .f32 := Host.reduceAdd weights (constant S_ .f32 0x00000000#32) reducesTo_S100000_S_d0 h_S_

/-- The reference's total weight. -/
def total : FVec Ideal S_ .f32 := mulf (constant (F := Ideal) S_ .f32 0x3F800000#32) weightSum

/-- The densities summed over the data points. -/
def sums (g : FVec Ideal S1024x100000 .f32) : FVec Ideal S1024 .f32 :=
  Host.reduceAdd g (constant S_ .f32 0x00000000#32) reducesTo_S1024x100000_S1024_d1 h_S_

/-- The logarithm of sums `s` over a total weight `t`. -/
def logMean (s : FVec Ideal S1024 .f32) (t : FVec Ideal S_ .f32) : FVec Ideal S1024 .f32 :=
  Host.log (Host.divf s (broadcastInDim S1024 ![] bcast_S_S1024 t))

/-- The reference's result. -/
def logDensity (a : FVec Ideal S1024x16 .f32) (b : FVec Ideal S100000x16 .f32) : FVec Ideal S1024 .f32 :=
  logMean (sums (gaussians a b)) total

/-- Every weight is one. -/
theorem weights_apply (k : Fin 100000) : weights (ix1 k) = ((1 : ℝ) : EReal) := by
  rw [EReal.coe_one]
  pointwise [weights]

/-- The weights add up to the number of data points. -/
theorem weightSum_apply (j : S_.Idx) : weightSum j = ((100000 : ℝ) : EReal) := by
  have h1 := weights_apply
  unfold weightSum
  generalize weights = w at *
  pointwise
  rw [Finset.sum_congr rfl fun k _ => h1 k, Density.coe_sum, Density.sum_ones]
  norm_num

/-- A multiplication by one changes nothing. -/
theorem one_mulf (w : FVec Ideal S_ .f32) (j : S_.Idx) : mulf (constant (F := Ideal) S_ .f32 0x3F800000#32) w j = w j := by
  pointwise

/-- The total weight is the number of data points. -/
theorem total_apply (j : S_.Idx) : total j = ((100000 : ℝ) : EReal) := by
  rw [total, one_mulf, weightSum_apply]

/-- The normalizing factor is `(2 π) ^ (-8)`. -/
theorem factor_apply (j : S_.Idx) : factor j = (((2 * Real.pi) ^ (-8 : ℝ) : ℝ) : EReal) := by
  show Ideal.pow (Ideal.ofBits .f32 0x40000000#32 * Ideal.acos (Ideal.ofBits .f32 0xBF800000#32)) (Ideal.ofBits .f32 0xC1000000#32) = _
  rw [Consts.f32_2, Consts.f32_neg_one, Consts.f32_neg_eight, Ideal.acos_coe, if_pos ⟨le_refl _, by norm_num⟩, Real.arccos_neg_one,
    ← EReal.coe_mul, Ideal.pow_coe_coe]
  rfl

/-- The squared distance at an index. -/
theorem sqdist_apply (a : FVec Ideal S1024x16 .f32) (b : FVec Ideal S100000x16 .f32) (i : Fin 1024) (j : Fin 100000) :
    sqdist a b (ix2 i j) = max (∑ l : Fin 16, a (ix2 i l) * a (ix2 i l) + ∑ l : Fin 16, b (ix2 j l) * b (ix2 j l)
      - ((2 : ℝ) : EReal) * ∑ l : Fin 16, a (ix2 i l) * b (ix2 j l)) 0 := by
  pointwise [sqdist]
  rw [Consts.f32_2]

/-- The weighted density at an index. -/
theorem gaussians_apply (a : FVec Ideal S1024x16 .f32) (b : FVec Ideal S100000x16 .f32) (i : Fin 1024) (j : Fin 100000) :
    gaussians a b (ix2 i j)
      = factor ix0 * Ideal.exp (Ideal.div (((-(1 / 2) : ℝ) : EReal) * sqdist a b (ix2 i j)) 1) * weights (ix1 j) := by
  unfold gaussians
  generalize sqdist a b = s
  generalize weights = w
  generalize factor = f
  pointwise
  rw [Consts.f32_neg_half]

/-- The sums at an index. -/
theorem sums_apply (g : FVec Ideal S1024x100000 .f32) (i : Fin 1024) : sums g (ix1 i) = ∑ j : Fin 100000, g (ix2 i j) := by
  unfold sums
  pointwise

/-- The logarithm of the quotient at an index. -/
theorem logMean_apply (s : FVec Ideal S1024 .f32) (t : FVec Ideal S_ .f32) (i : Fin 1024) :
    logMean s t (ix1 i) = Ideal.log (Ideal.div (s (ix1 i)) (t ix0)) := by
  pointwise [logMean]

section Real

variable (a : FVec Ideal S1024x16 .f32) (b : FVec Ideal S100000x16 .f32)
variable (q : Fin 1024 → Fin 16 → ℝ) (x : Fin 100000 → Fin 16 → ℝ)
variable (ha : ∀ i l, a (ix2 i l) = ((q i l : ℝ) : EReal)) (hb : ∀ j l, b (ix2 j l) = ((x j l : ℝ) : EReal))

include ha hb in
/-- Over real entries the reference's squared distance is not below zero by itself. -/
theorem sqdist_real (i : Fin 1024) (j : Fin 100000) : sqdist a b (ix2 i j)
    = ((∑ l, q i l * q i l + ∑ l, x j l * x j l - 2 * ∑ l, q i l * x j l : ℝ) : EReal) := by
  rw [sqdist_apply]
  simp only [ha, hb]
  rw [Density.coe_sum_mul, Density.coe_sum_mul, Density.coe_sum_mul, ← EReal.coe_mul, ← EReal.coe_add, ← EReal.coe_sub]
  exact max_eq_left (EReal.coe_nonneg.2 (Density.sqdist_nonneg (q i) (x j)))

/-- The Gaussian density of query `i` at data point `j`. -/
def gauss (i : Fin 1024) (j : Fin 100000) : ℝ :=
  (2 * Real.pi) ^ (-8 : ℝ) * Real.exp (-(1 / 2) * (∑ l, q i l * q i l + ∑ l, x j l * x j l - 2 * ∑ l, q i l * x j l))

include ha hb in
/-- The reference's weighted density is the Gaussian density. -/
theorem gaussians_real (i : Fin 1024) (j : Fin 100000) : gaussians a b (ix2 i j) = ((gauss q x i j : ℝ) : EReal) := by
  rw [gaussians_apply, sqdist_real a b q x ha hb, factor_apply, weights_apply, ← EReal.coe_mul, ← EReal.coe_one,
    Ideal.div_coe one_ne_zero, ← EReal.coe_mul, Ideal.exp_coe, ← EReal.coe_mul, ← EReal.coe_mul, gauss, mul_one, one_div_one, mul_one]

include ha hb in
/-- The reference's result for query `i` is the logarithm of the mean Gaussian density over the data points. -/
theorem logDensity_real (i : Fin 1024) : logDensity a b (ix1 i)
    = Ideal.log (((∑ j : Fin 100000, gauss q x i j) * (1 / 100000) : ℝ) : EReal) := by
  rw [logDensity, logMean_apply, sums_apply, Finset.sum_congr rfl fun j _ => gaussians_real a b q x ha hb i j, Density.coe_sum, total_apply,
    Ideal.div_coe (by norm_num), ← EReal.coe_mul]

end Real

end Cert.ReferenceIdeal.Value

end
-- ==== Proof.Equation.lean ====
/-
  The kernel's log density and the reference's are the same number.
-/
module

public import proofs.«01_k».proof.Proof.KernelValue
public import proofs.«01_k».proof.Proof.RefValue

@[expose] public section

noncomputable section

namespace Cert.Equation

open Idealize.ShloMosaic Cert.KernelIdeal.Value Cert.ReferenceIdeal.Value

variable (q : Fin 1024 → Fin 16 → ℝ) (x : Fin 100000 → Fin 16 → ℝ)

/-- The sum over all blocks is the sum over the data points, and one for each of the 2400 padded columns. -/
theorem blocks_sum (i : Fin 1024) : ∑ s ∈ Finset.range 10, blockSum q x s i
    = (∑ j : Fin 100000, Real.exp (∑ l, q i l * x j l - (∑ l, x j l * x j l) / 2)) + 2400 := by
  have h := Density.sum_blocks_padded 10 10240 100000 (fun k => Real.exp (expo q x i k)) (by norm_num)
    (fun k h _ => by rw [expo, dif_neg (not_lt.2 h), Real.exp_zero])
  have hpad : ((10 * 10240 - 100000 : ℕ) : ℝ) = 2400 := by norm_num
  have hpts : ∑ j : Fin 100000, Real.exp (expo q x i j.val) = ∑ j : Fin 100000, Real.exp (∑ l, q i l * x j l - (∑ l, x j l * x j l) / 2) :=
    Finset.sum_congr rfl fun j _ => by rw [expo, dif_pos j.isLt]
  exact h.trans (congrArg₂ (· + ·) hpts hpad)

/-- The kernel's log density of query `i` is the logarithm of the mean Gaussian density over the data points. -/
theorem kernelDensity_eq (i : Fin 1024) :
    kernelDensity q x i = Ideal.log (((∑ j : Fin 100000, gauss q x i j) * (1 / 100000) : ℝ) : EReal) := by
  haveI : Nonempty (Fin 100000) := ⟨⟨0, by norm_num⟩⟩
  have hn : (0 : ℝ) < 100000 := by norm_num
  have h := Density.log_density (∑ l, q i l * q i l) (fun j : Fin 100000 => ∑ l, x j l * x j l) (fun j => ∑ l, q i l * x j l) 100000 hn
  have hp : 0 < ∑ j : Fin 100000, Real.exp (∑ l, q i l * x j l - (∑ l, x j l * x j l) / 2) :=
    Finset.sum_pos (fun j _ => Real.exp_pos _) Finset.univ_nonempty
  have hg : 0 < (∑ j : Fin 100000, gauss q x i j) * (1 / 100000) :=
    mul_pos (Finset.sum_pos (fun j _ => mul_pos (Real.rpow_pos_of_pos (by positivity) _) (Real.exp_pos _)) Finset.univ_nonempty) (by norm_num)
  rw [kernelDensity, blocks_sum, ← EReal.coe_sub, add_sub_cancel_right, ← EReal.coe_mul, ← EReal.coe_sub, Ideal.log_coe,
    Ideal.log_coe, Ideal.log_coe, if_neg (not_le.2 hp), if_neg (not_le.2 hn), if_neg (not_le.2 hg), ← EReal.coe_sub, ← EReal.coe_add, h,
    mul_one_div]
  rfl

end Cert.Equation

end
-- ==== Proof.KernelRun.lean ====
/-
  The kernel's result after the host's last reshape: the column of log densities, laid out as a vector.
-/
module

public import proofs.«01_k».proof.Proof.KernelValue

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)
variable (q : Fin 1024 → Fin 16 → ℝ) (x : Fin 100000 → Fin 16 → ℝ)
variable (hq : ∀ i l, queries m c (ix2 i l) = ((q i l : ℝ) : EReal)) (hx : ∀ j l, points m c (ix2 j l) = ((x j l : ℝ) : EReal))

/-- The host line after the launch lays the launch's result array out as a vector. -/
theorem tail_eq : Pipeline.afterTail₀ cfgs (dats (F := Ideal) m) 0 (V0 m) [hostOps1] c main_v0
    = shapeCast S1024 ((dats (F := Ideal) m 0 c).arrAt 3 cfg0.N) shapeCasts_S1024x1_S1024 := by
  have h := Pipeline.withArrays_arr spec0 (by decide) c (V0 m c) (fun w => (dats (F := Ideal) m 0 c).arrAt w cfg0.N) 3
  unfold Pipeline.afterTail₀
  rw [← h]
  after_results
  rfl

include hq hx in
/-- The kernel's result at query `i`. -/
theorem result_apply (i : Fin 1024) :
    (Pipeline.afterTail₀ cfgs (dats (F := Ideal) m) 0 (V0 m) [hostOps1] c main_v0 : FVec Ideal S1024 .f32) (ix1 i) = kernelDensity q x i := by
  rw [tail_eq, array_eq m c q x hq hx]
  pointwise
  rfl

end Cert.KernelIdeal.Value

end
-- ==== Proof.Finite.lean ====
/-
  The precondition, read on the extended reals: every entry of both arguments is a real number.
-/
module

public import proofs.«01_k».proof.Proof.Gen.Pre_finite
public import proofs.«01_k».proof.Proof.Consts
public import Idealize.ShloMosaic.PureOps.Ideal
public import Idealize.ShloMosaic.Lib.Pointwise
public import Idealize.ShloMosaic.Lib.Claim
public import Idealize.ShloMosaic.Lib.ReduceAll
public import Idealize.ShloMosaic.Lib.WordArith

@[expose] public section

set_option maxRecDepth 16384

noncomputable section

namespace Cert.Pre_finite

open Idealize.ShloMosaic

/-- An extended real whose absolute value compares below infinity is a real number. -/
theorem real_of_lt (a : EReal) (h : BitVec.ofBool (decide (FloatOps.absf (F := Ideal) (φ := .f32) a < Ideal.ofBits .f32 0x7F800000#32)) = 1#1) :
    a = ((a.toReal : ℝ) : EReal) := by
  have h' : max a (-a) < ⊤ := by
    rw [Consts.f32_inf] at h
    exact of_decide_eq_true ((WordArith.ofBool_eq_one_iff _).1 h)
  obtain ⟨h1, h2⟩ := max_lt_iff.1 h'
  exact (EReal.coe_toReal h1.ne fun h => by simp [h] at h2).symm

/-- Under the precondition every entry of the queries and of the data points is a real number. -/
theorem real_of_fn (a : FVec Ideal S1024x16 .f32) (b : FVec Ideal S100000x16 .f32) (h : fn (F := Ideal) a b = fun _ => 1#1) :
    (∃ q : Fin 1024 → Fin 16 → ℝ, ∀ i l, a (ix2 i l) = ((q i l : ℝ) : EReal)) ∧
      ∃ x : Fin 100000 → Fin 16 → ℝ, ∀ j l, b (ix2 j l) = ((x j l : ℝ) : EReal) := by
  have e := congrFun h (fun k => k.elim0)
  dsimp only [fn] at e
  obtain ⟨ea, eb⟩ := IntOp.andi_eq_one.1 e
  have ha := fun i l => Host.reduce_andi_all _ _ _ _ _ ea (ix2 i l)
  have hb := fun i l => Host.reduce_andi_all _ _ _ _ _ eb (ix2 i l)
  pointwise at ha hb
  exact ⟨⟨_, fun i l => real_of_lt _ (ha i l)⟩, ⟨_, fun j l => real_of_lt _ (hb j l)⟩⟩

end Cert.Pre_finite

end
-- ==== Proof.lean ====
/-
  The certificate of the kernel density estimate: the frames of the kernel, of its ideal program and of the reference;
  that the ideal program is the kernel with two constants named; and that, from finite arguments, the kernel and the
  reference leave the same log densities.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Equation
public import proofs.«01_k».proof.Proof.KernelRun
public import proofs.«01_k».proof.Proof.Finite
public import Idealize.ShloMosaic.Lib.Pointwise
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run, with its result named: the log density of its two arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v36)
          = Cert.ReferenceIdeal.Value.logDensity
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  Cert.ReferenceIdeal.Value.run (F := Ideal) m g

/-- The reference ends with its arguments unchanged; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (reference_run m g)

/-- The two constants that the kernel names are the numbers they are named for. -/
theorem constants : Cert.preserves_Kernel_KernelIdeal :=
  ⟨IdealRules.named_const.statement Cert.KernelIdeal.κ "log2_e" .f32 0x3FB8AA3B#32 _ rfl,
    IdealRules.named_const.statement Cert.KernelIdeal.κ "eight_log_two_pi" .f32 0x416B3F8E#32 _ rfl⟩

/-- From finite arguments the kernel and the reference end with equal results. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.ReferenceIdeal.Value.logDensity
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · run_from Cert.KernelIdeal.Gen.run_main m g
    · obtain ⟨⟨q, hq⟩, x, hx⟩ := Cert.Pre_finite.real_of_fn _ _ (hpre c)
      funext j
      idx_vars j
      exact (Cert.KernelIdeal.Value.result_apply m c q x hq hx j0).trans
        ((Cert.Equation.kernelDensity_eq q x j0).trans (Cert.ReferenceIdeal.Value.logDensity_real _ _ q x hq hx j0).symm)
    · exact Cert.KernelIdeal.Gen.W_main_arg0 m _ c
    · exact Cert.KernelIdeal.Gen.W_main_arg1 m _ c
  · refine (θ_run Cert.ReferenceIdeal.defs _ _).mono (fun r h c => ⟨(h c).1.trans ?_, (h c).2⟩) (reference_run m' g')
    rw [(hagree c).1, (hagree c).2]

/-- The claim. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    frame_reference, fun m g _ => frame_reference m g trivial, constants, value⟩

end Cert.Proof

end
